-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x100000 : Shape := ⟨2, ![1024, 100000]⟩
abbrev S_ : Shape := ⟨0, ![]⟩
abbrev S100000x16 : Shape := ⟨2, ![100000, 16]⟩
abbrev S26x16 : Shape := ⟨2, ![26, 16]⟩
abbrev S1x16 : Shape := ⟨2, ![1, 16]⟩
abbrev S512x100000 : Shape := ⟨2, ![512, 100000]⟩
abbrev S512x16 : Shape := ⟨2, ![512, 16]⟩
abbrev S128x100000 : Shape := ⟨2, ![128, 100000]⟩
abbrev S128x16 : Shape := ⟨2, ![128, 16]⟩
abbrev S128x6272 : Shape := ⟨2, ![128, 6272]⟩
abbrev S6272x16 : Shape := ⟨2, ![6272, 16]⟩
abbrev S128x5920 : Shape := ⟨2, ![128, 5920]⟩
abbrev S5920x16 : Shape := ⟨2, ![5920, 16]⟩
abbrev S1024x16 : Shape := ⟨2, ![1024, 16]⟩

abbrev nBuf : Space → Nat
  | .hbm => 19
  | .vmem => 12
  | .smem => 0
  | _ => 0

abbrev bufTy : (tb : Table) → Fin (tcTables nBuf tb) → BufTy
  | .hbm, ⟨0, _⟩ => ⟨S1024x100000, .i1⟩
  | .hbm, ⟨1, _⟩ => ⟨S_, .i32⟩
  | .hbm, ⟨2, _⟩ => ⟨S100000x16, .f32⟩
  | .hbm, ⟨3, _⟩ => ⟨S26x16, .f32⟩
  | .hbm, ⟨4, _⟩ => ⟨S_, .i32⟩
  | .hbm, ⟨5, _⟩ => ⟨S_, .i1⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S1x16, .f32⟩
  | .hbm, ⟨11, _⟩ => ⟨S100000x16, .bf16⟩
  | .hbm, ⟨12, _⟩ => ⟨S512x100000, .i1⟩
  | .hbm, ⟨13, _⟩ => ⟨S512x100000, .i8⟩
  | .hbm, ⟨14, _⟩ => ⟨S512x16, .f32⟩
  | .hbm, ⟨15, _⟩ => ⟨S512x100000, .i1⟩
  | .hbm, ⟨16, _⟩ => ⟨S512x100000, .i8⟩
  | .hbm, ⟨17, _⟩ => ⟨S512x16, .f32⟩
  | .hbm, ⟨18, _⟩ => ⟨S1024x16, .f32⟩
  | .local _ .vmem, ⟨0, _⟩ => ⟨S128x100000, .i8⟩
  | .local _ .vmem, ⟨1, _⟩ => ⟨S128x100000, .i8⟩
  | .local _ .vmem, ⟨2, _⟩ => ⟨S100000x16, .bf16⟩
  | .local _ .vmem, ⟨3, _⟩ => ⟨S1x16, .f32⟩
  | .local _ .vmem, ⟨4, _⟩ => ⟨S128x16, .f32⟩
  | .local _ .vmem, ⟨5, _⟩ => ⟨S128x16, .f32⟩
  | .local _ .vmem, ⟨6, _⟩ => ⟨S128x100000, .i8⟩
  | .local _ .vmem, ⟨7, _⟩ => ⟨S128x100000, .i8⟩
  | .local _ .vmem, ⟨8, _⟩ => ⟨S100000x16, .bf16⟩
  | .local _ .vmem, ⟨9, _⟩ => ⟨S1x16, .f32⟩
  | .local _ .vmem, ⟨10, _⟩ => ⟨S128x16, .f32⟩
  | .local _ .vmem, ⟨11, _⟩ => ⟨S128x16, .f32⟩
  | _, _ => ⟨S1024x100000, .i1⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_c_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x100000 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100000x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x100000 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S100000x16 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S128x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S1024x100000 : Shape := ⟨2, ![1024, 100000]⟩
abbrev S_ : Shape := ⟨0, ![]⟩
abbrev S100000x16 : Shape := ⟨2, ![100000, 16]⟩
abbrev S26x16 : Shape := ⟨2, ![26, 16]⟩
abbrev S1024x16 : Shape := ⟨2, ![1024, 16]⟩
abbrev S1x16 : Shape := ⟨2, ![1, 16]⟩
abbrev S16 : Shape := ⟨1, ![16]⟩

abbrev nBuf : Space → Nat
  | .hbm => 24
  | .vmem => 0
  | .smem => 0
  | _ => 0

abbrev bufTy : (tb : Table) → Fin (tcTables nBuf tb) → BufTy
  | .hbm, ⟨0, _⟩ => ⟨S1024x100000, .i1⟩
  | .hbm, ⟨1, _⟩ => ⟨S_, .i32⟩
  | .hbm, ⟨2, _⟩ => ⟨S100000x16, .f32⟩
  | .hbm, ⟨3, _⟩ => ⟨S26x16, .f32⟩
  | .hbm, ⟨4, _⟩ => ⟨S1024x100000, .f32⟩
  | .hbm, ⟨5, _⟩ => ⟨S1024x16, .f32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S1x16, .f32⟩
  | .hbm, ⟨20, _⟩ => ⟨S16, .f32⟩
  | .hbm, ⟨21, _⟩ => ⟨S1x16, .f32⟩
  | .hbm, ⟨22, _⟩ => ⟨S1024x16, .f32⟩
  | .hbm, ⟨23, _⟩ => ⟨S1024x16, .f32⟩
  | _, _ => ⟨S1024x100000, .i1⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_c_2 : Ref sig .tc := ⟨.hbm, 12, rfl⟩
abbrev main_v5 : Ref sig .tc := ⟨.hbm, 13, rfl⟩
abbrev main_c_3 : Ref sig .tc := ⟨.hbm, 14, rfl⟩
abbrev main_c_4 : Ref sig .tc := ⟨.hbm, 15, rfl⟩
abbrev main_v6 : Ref sig .tc := ⟨.hbm, 16, rfl⟩
abbrev main_c_5 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]
-- ==== Proof.Run.lean ====
/- Hand-written, untrusted. The idealized kernel's run with its result: both launches terminate, the concatenated
   array ends holding what the last host stretch leaves in it, the arguments end as launched. -/
module

public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the two launches and the host lines around them terminates, with EVERY unscoped
    buffer of the TensorCore at its contents after the last host stretch (`Gen.W5`). -/
theorem run_all : θ_run defs (onTc (τ := τ) (main (F := F))) ⟨m, fun _ => 0, ρ⟩ (fun r => ∀ c : Dev nD,
      ∀ b ∈ Pipeline.ucRefs τ sig, r.2.mem ((c : Thread nD τ).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by
        rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hbufs, Hprng, Howes⟩
      isplitl [Hbufs Hprng]
      · isplitl [Hbufs]; · iexact Hbufs
        iexact Hprng
      iexact Howes⟩)
    (hinit := by
      refine Pipeline.initEach L lv fun c => ?_
      rw [show unscopedBufs c (fun b => m ((c : Thread nD τ).loc b))
          = StableHlo.held (c : Thread nD τ) (Pipeline.ucRefs τ sig) (W0 m ρ c) from Pipeline.unscopedBufs_held c (W0 m ρ c)]
      iintro ⟨⟨Hbufs, -, Howes, -, Hprng, -⟩, -⟩
      imodintro
      isplitl [Hbufs]; · iexact Hbufs
      isplitl [Hprng]; · iexists _; iexact Hprng
      iexists ∅; iexact Howes)
    (QY := fun c s => ∀ b ∈ Pipeline.ucRefs τ sig, s.mem (((c : Thread nD τ)).1, b) = W5 m ρ c b)
    (hfin := fun c s' => by
      iintro ⟨⟨Hbufs, -⟩, HSI⟩
      unfold StableHlo.held
      imodintro
      iapply (pointsTo_read_all (Pipeline.ucRefs τ sig) (fun b => (((c : Thread nD τ)).1, b)) (W5 m ρ c) s')
      isplitl [Hbufs] <;> iassumption)
    (hQ := fun _ h _ => h)

/-- The run read at the result and at the arguments. -/
theorem run : θ_run defs (onTc (τ := τ) (main (F := F))) ⟨m, fun _ => 0, ρ⟩ (fun r => ∀ c : Dev nD,
      r.2.mem ((c.tc : Thread nD τ).loc main_v11) = W5 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨h c _ (mem_uc main_v11 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩) (run_all m ρ)

end Cert.KernelIdeal.Hand

end
-- ==== Proof.Block.lean ====
/- Hand-written, untrusted. What one grid point's body computes over the extended reals: the bias row plus, chunk after
   chunk of the long axis, the products of the int8 block with the table — in all, one sum over the whole long axis. -/
module

public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe

/-- The `n`-th product of row `r` of the int8 block with column `j` of the table (zero past the end of the long axis). -/
def term (x0 : Vec Ideal S128x100000 .i8) (x1 : Vec Ideal S100000x16 .bf16) (r : Fin 128) (j : Fin 16) (n : ℕ) : EReal :=
  if h : n < 100000 then ((((x0 (ix2 r ⟨n, h⟩) : BitVec 8).toInt : ℝ) : EReal) * (x1 (ix2 ⟨n, h⟩ j) : EReal)) else 0

/-- One chunk of `6272` columns, from any offset: the accumulator gains the chunk's products. -/
theorem chunk (x0 : Vec Ideal S128x100000 .i8) (x1 : Vec Ideal S100000x16 .bf16) (off : ℕ)
    (h0 : ∀ a, (![0, off] : Fin 2 → ℕ) a + S128x6272.size a ≤ S128x100000.size a)
    (h1 : ∀ a, (![off, 0] : Fin 2 → ℕ) a + S6272x16.size a ≤ S100000x16.size a)
    (acc : FVec Ideal S128x16 .f32) (r : Fin 128) (j : Fin 16) :
    addf acc (matmul (φ₁ := .bf16) (φ₂ := .bf16) dot_S128x6272_S6272x16_S128x16_1_0_0_1_n_n none
        (sitofp .bf16 (shapeCast S128x6272 (View.ld x0 (Rect.unit (s := S128x100000) ![0, off] S128x6272.size h0))
          shapeCasts_S128x6272_S128x6272))
        (shapeCast S6272x16 (View.ld x1 (Rect.unit (s := S100000x16) ![off, 0] S6272x16.size h1))
          shapeCasts_S6272x16_S6272x16)
        (constant S128x16 .f32 0x00000000#32)) (ix2 r j)
      = acc (ix2 r j) + ∑ k : Fin 6272, term x0 x1 r j (off + k) := by
  have hoff : off + 6272 ≤ 100000 := h1 0
  pointwise
  refine congrArg (acc (ix2 r j) + ·) (Finset.sum_congr rfl fun k _ => ?_)
  unfold term
  rw [dif_pos (by omega)]
  rfl

/-- One chunk of `5920` columns, from any offset: the accumulator gains the chunk's products. -/
theorem lastChunk (x0 : Vec Ideal S128x100000 .i8) (x1 : Vec Ideal S100000x16 .bf16) (off : ℕ)
    (h0 : ∀ a, (![0, off] : Fin 2 → ℕ) a + S128x5920.size a ≤ S128x100000.size a)
    (h1 : ∀ a, (![off, 0] : Fin 2 → ℕ) a + S5920x16.size a ≤ S100000x16.size a)
    (acc : FVec Ideal S128x16 .f32) (r : Fin 128) (j : Fin 16) :
    addf acc (matmul (φ₁ := .bf16) (φ₂ := .bf16) dot_S128x5920_S5920x16_S128x16_1_0_0_1_n_n none
        (sitofp .bf16 (shapeCast S128x5920 (View.ld x0 (Rect.unit (s := S128x100000) ![0, off] S128x5920.size h0))
          shapeCasts_S128x5920_S128x5920))
        (shapeCast S5920x16 (View.ld x1 (Rect.unit (s := S100000x16) ![off, 0] S5920x16.size h1))
          shapeCasts_S5920x16_S5920x16)
        (constant S128x16 .f32 0x00000000#32)) (ix2 r j)
      = acc (ix2 r j) + ∑ k : Fin 5920, term x0 x1 r j (off + k) := by
  have hoff : off + 5920 ≤ 100000 := h1 0
  pointwise
  refine congrArg (acc (ix2 r j) + ·) (Finset.sum_congr rfl fun k _ => ?_)
  unfold term
  rw [dif_pos (by omega)]
  rfl

/-- A running sum that takes the next `c` terms. -/
theorem sum_grow (f : ℕ → EReal) (a : EReal) (n c : ℕ) :
    a + ∑ k ∈ Finset.range n, f k + ∑ k : Fin c, f (n + k) = a + ∑ k ∈ Finset.range (n + c), f k := by
  rw [Finset.sum_range_add, Fin.sum_univ_eq_sum_range (fun k => f (n + k)) c, add_assoc]

/-- The first chunk, onto the bare start value. -/
theorem sum_start (f : ℕ → EReal) (a : EReal) (c : ℕ) :
    a + ∑ k : Fin c, f (0 + k) = a + ∑ k ∈ Finset.range c, f k := by
  simpa using sum_grow f a 0 c

/-- What a grid point stores at row `r`, column `j`: the bias row's entry plus the whole row's products. -/
theorem out_apply (x0 : Vec Ideal S128x100000 .i8) (x1 : Vec Ideal S100000x16 .bf16) (x2 : Vec Ideal S1x16 .f32)
    (r : Fin 128) (j : Fin 16) :
    out0_3 x0 x1 x2 (ix2 r j) = (x2 (ix2 0 j) : EReal)
      + ∑ k : Fin 100000, (((x0 (ix2 r k) : BitVec 8).toInt : ℝ) : EReal) * (x1 (ix2 k j) : EReal) := by
  have hz : (![0, 0] : Fin 2 → ℕ) = fun _ => 0 := funext fun a => by fin_cases a <;> rfl
  have hsum : ∑ k : Fin 100000, (((x0 (ix2 r k) : BitVec 8).toInt : ℝ) : EReal) * (x1 (ix2 k j) : EReal)
      = ∑ k ∈ Finset.range 100000, term x0 x1 r j k := by
    rw [← Fin.sum_univ_eq_sum_range]
    refine Finset.sum_congr rfl fun k _ => ?_
    unfold term
    rw [dif_pos k.isLt]
  rw [hsum]
  unfold out0_3
  rw [View.canon_unit_zero hz]
  unfold k0_pay1 k0_pay2 k0_pay3 k0_pay4 k0_pay5 k0_pay6 k0_pay7
  simp only [lastChunk, chunk]
  rw [show broadcastTo S128x16 (shapeCast S1x16 (shapeCast S1x16 (View.ld x2 r0_0) shapeCasts_S1x16_S1x16)
      shapeCasts_S1x16_S1x16) broadcasts_S1x16_S128x16 (ix2 r j) = x2 (ix2 0 j) from by pointwise]
  rw [sum_start]
  simp only [sum_grow]

/-- The second launch's body computes the same function of its blocks as the first's. -/
theorem out1_eq (x0 : Vec Ideal S128x100000 .i8) (x1 : Vec Ideal S100000x16 .bf16) (x2 : Vec Ideal S1x16 .f32) :
    out1_3 x0 x1 x2 = out0_3 x0 x1 x2 := rfl

end Cert.KernelIdeal.Hand

end
-- ==== Proof.Arrays.lean ====
/- Hand-written, untrusted. What each launch leaves in its result array, as one whole-array function of its three
   operand arrays as the launch finds them. -/
module

public import proofs.«01_k».proof.Proof.Block

@[expose] public section

set_option maxRecDepth 16384

noncomputable section

namespace Cert.KernelIdeal.Hand

open Cert.KernelIdeal Cert.KernelIdeal.Gen
open Idealize.ShloMosaic Idealize.ShloMosaic.TcCoe
open Idealize.ShloMosaic.Pipeline (Dat)

/-- The int8 half times the table, plus the bias row under every row: row `i 0`, column `i 1`. -/
def half (x0 : Vec Ideal S512x100000 .i8) (x1 : Vec Ideal S100000x16 .bf16) (x2 : Vec Ideal S1x16 .f32) :
    Vec Ideal S512x16 .f32 :=
  fun i => ((x2 (ix2 0 (i 1)) : EReal)
    + ∑ k : Fin 100000, (((x0 (ix2 (i 0) k) : BitVec 8).toInt : ℝ) : EReal) * (x1 (ix2 k (i 1)) : EReal) : EReal)

variable (V : (c : Dev nD) → (b : Ref sig .tc) → Buf (Elt Ideal) ((c : Thread nD τ).loc b))

/-- The first launch's block indices: the row block of the int8 half and of the result move with the point, the table
    and the bias row stay. -/
theorem idx0 : ∀ t : Fin cfg0.N, win0_0.index t = ![t.val, 0] ∧ win0_1.index t = ![0, 0]
    ∧ win0_2.index t = ![0, 0] ∧ win0_3.index t = ![t.val, 0] :=
  (by decide +kernel : ∀ t : Fin grid0.N, _)

/-- The second launch's, the same. -/
theorem idx1 : ∀ t : Fin cfg1.N, win1_0.index t = ![t.val, 0] ∧ win1_1.index t = ![0, 0]
    ∧ win1_2.index t = ![0, 0] ∧ win1_3.index t = ![t.val, 0] :=
  (by decide +kernel : ∀ t : Fin grid1.N, _)

/-- The first launch's result array. -/
theorem array0 (c : Dev nD) :
    (dat0 V c).arrAt 3 cfg0.N = half (V c main_v6) (V c main_v4) (V c main_v3) := by
  refine (dat0 V c).arrAt_eq_of_covers 3 _ (by decide +kernel) fun t _ y => ?_
  blk_simp
  rw [after0_3]
  obtain ⟨r, j, rfl⟩ : ∃ (r : Fin 128) (j : Fin 16), y = ix2 r j := ⟨y 0, y 1, eq_ix2 y⟩
  refine (out_apply _ _ _ r j).trans ?_
  unfold half
  blk_point [iblk0, idx0 t]

/-- The second launch's result array. -/
theorem array1 (c : Dev nD) :
    (dat1 V c).arrAt 3 cfg1.N = half (V c main_v9) (V c main_v4) (V c main_v3) := by
  refine (dat1 V c).arrAt_eq_of_covers 3 _ (by decide +kernel) fun t _ y => ?_
  blk_simp
  rw [after1_3, out1_eq]
  obtain ⟨r, j, rfl⟩ : ∃ (r : Fin 128) (j : Fin 16), y = ix2 r j := ⟨y 0, y 1, eq_ix2 y⟩
  refine (out_apply _ _ _ r j).trans ?_
  unfold half
  blk_point [iblk1, idx1 t]

end Cert.KernelIdeal.Hand

end
-- ==== Proof.Host.lean ====
/- Hand-written, untrusted. The host lines around the two launches, read back: the operand arrays that each launch finds,
   and the result array, as functions of the program's arguments. -/
module

public import proofs.«01_k».proof.Proof.Arrays
public import Idealize.ShloMosaic.Lib.StableHlo.Run

@[expose] public section

set_option maxRecDepth 16384

noncomputable section

namespace Cert.KernelIdeal.Hand

open Cert.KernelIdeal Cert.KernelIdeal.Gen
open Idealize.ShloMosaic Idealize.ShloMosaic.TcCoe Idealize.ShloMosaic.StableHlo

variable (m : (ℓ : Loc nD τ sig) → Buf (Elt Ideal) ℓ) (ρ : Dev nD → PrngReg)

/-- The row of the second table at the index word (a negative word counts from the end; the slice clamps). -/
def row (idx : Vec Ideal S_ .i32) (tab : Vec Ideal S26x16 .f32) : Vec Ideal S1x16 .f32 :=
  Host.dynamicSlice S1x16 tab (fun k => (((![select (cmpi .slt idx (constantI S_ 32 0#32))
      (addi idx (constantI S_ 32 26#32)) idx, constantI S_ 32 0#32] : Fin 2 → IVec S_ 32)) k
      (Shape.Idx.first h_S_)).toInt) sliceFits_S26x16_S1x16

/-- Rows `off` to `off + 511` of the bool matrix, each bit widened to a byte. -/
def bytes (off : ℕ) (x : Vec Ideal S1024x100000 .i1) (h : S1024x100000.Slices ![off, 0] S512x100000) :
    Vec Ideal S512x100000 .i8 :=
  extui 8 (extractStridedSlice S512x100000 ![off, 0] x h) natLt_1_8

/-- The first launch finds the selected row of the second table in its third operand. -/
theorem W1_v3 (c : Dev nD) : W1 m ρ c (Proc.devRef .tc main_v3)
    = row (m ((c : Thread nD τ).loc main_arg1)) (m ((c : Thread nD τ).loc main_arg3)) := by
  unfold row
  after_results
  congr 1
  funext k
  fin_cases k
  · simp only [Fin.zero_eta, Matrix.cons_val_zero]
    after_results_simp
    rfl
  · rfl

/-- It finds the float table in its second, the cast being the identity over the reals. -/
theorem W1_v4 (c : Dev nD) : W1 m ρ c (Proc.devRef .tc main_v4)
    = (truncf .bf16 (m ((c : Thread nD τ).loc main_arg2) : FVec Ideal S100000x16 .f32) bitsLt_bf16_f32
        : FVec Ideal S100000x16 .bf16) := by
  after_results

/-- It finds the upper half of the bool matrix, as bytes, in its first. -/
theorem W1_v6 (c : Dev nD) : W1 m ρ c (Proc.devRef .tc main_v6)
    = bytes 0 (m ((c : Thread nD τ).loc main_arg0)) slices_S1024x100000_S512x100000_0_0 := by
  unfold bytes
  after_results

/-- The second launch finds the lower half there. -/
theorem W3_v9 (c : Dev nD) : W3 m ρ c (Proc.devRef .tc main_v9)
    = bytes 512 (m ((c : Thread nD τ).loc main_arg0)) slices_S1024x100000_S512x100000_512_0 := by
  rw [← W2_args m ρ c main_arg0 (by decide)]
  unfold bytes
  after_results

/-- The second launch finds the same table as the first. -/
theorem W3_v4 (c : Dev nD) : W3 m ρ c (Proc.devRef .tc main_v4) = W1 m ρ c (Proc.devRef .tc main_v4) :=
  (W3_of m ρ c main_v4 (by decide)).trans (W2_of m ρ c main_v4 (by decide))

/-- The second launch finds the same bias row as the first. -/
theorem W3_v3 (c : Dev nD) : W3 m ρ c (Proc.devRef .tc main_v3) = W1 m ρ c (Proc.devRef .tc main_v3) :=
  (W3_of m ρ c main_v3 (by decide)).trans (W2_of m ρ c main_v3 (by decide))

/-- The program's result as a function of its four arguments: the two halves, one above the other. -/
def result (x : Vec Ideal S1024x100000 .i1) (idx : Vec Ideal S_ .i32) (e : FVec Ideal S100000x16 .f32)
    (tab : Vec Ideal S26x16 .f32) : Vec Ideal S1024x16 .f32 :=
  concatenate S1024x16 0
    [⟨S512x16, half (bytes 0 x slices_S1024x100000_S512x100000_0_0) (truncf .bf16 e bitsLt_bf16_f32) (row idx tab)⟩,
     ⟨S512x16, half (bytes 512 x slices_S1024x100000_S512x100000_512_0) (truncf .bf16 e bitsLt_bf16_f32) (row idx tab)⟩]
    concatenates_S512x16_S512x16_S1024x16_d0

/-- The first launch's result, still in place after the second launch. -/
theorem W4_v7 (c : Dev nD) : W4 m ρ c (Proc.devRef .tc main_v7)
    = half (V1 m ρ c main_v6) (V1 m ρ c main_v4) (V1 m ρ c main_v3) :=
  ((W4_of m ρ c main_v7 (by decide)).trans (W3_of m ρ c main_v7 (by decide))).trans
    ((W2_arr m ρ c 3).trans (array0 (V1 m ρ) c))

/-- The second launch's result. -/
theorem W4_v10 (c : Dev nD) : W4 m ρ c (Proc.devRef .tc main_v10)
    = half (V3 m ρ c main_v9) (V3 m ρ c main_v4) (V3 m ρ c main_v3) :=
  (W4_arr m ρ c 3).trans (array1 (V3 m ρ) c)

/-- The concatenated array at the end of the run. -/
theorem W5_v11 (c : Dev nD) : W5 m ρ c (Proc.devRef .tc main_v11)
    = result (m ((c : Thread nD τ).loc main_arg0)) (m ((c : Thread nD τ).loc main_arg1))
        (m ((c : Thread nD τ).loc main_arg2)) (m ((c : Thread nD τ).loc main_arg3)) := by
  have h7 := W4_v7 m ρ c
  have h10 := W4_v10 m ρ c
  dsimp only [V1, V3] at h7 h10
  rw [W1_v6, W1_v4, W1_v3] at h7
  rw [W3_v9, W3_v4, W3_v3, W1_v4, W1_v3] at h10
  unfold result
  rw [← h7, ← h10]
  after_results

end Cert.KernelIdeal.Hand

end
-- ==== Proof.Reference.lean ====
/- Hand-written, untrusted. The reference program's run: its result array as one function of its arguments, the arguments
   unchanged. -/
module

public import proofs.«01_k».proof.Proof.Gen.ReferenceIdeal
public import Idealize.ShloMosaic.Lib.Pointwise
public import Idealize.ShloMosaic.Lib.Claim

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.StableHlo Idealize.SL.Sem

/-- The two start words of the reference's slice: the index word (a negative one counts from the end), and zero. -/
def starts (idx : Vec Ideal S_ .i32) : Fin 2 → IVec S_ 32 :=
  ![select (cmpi .slt idx (constantI S_ 32 0#32)) (addi idx (constantI S_ 32 26#32)) idx,
    select (cmpi .slt (constantI S_ 32 0#32) (constantI S_ 32 0#32))
      (addi (constantI S_ 32 0#32) (constantI S_ 32 16#32)) (constantI S_ 32 0#32)]

/-- The row of the second table there. -/
def row (idx : Vec Ideal S_ .i32) (tab : Vec Ideal S26x16 .f32) : Vec Ideal S1x16 .f32 :=
  Host.dynamicSlice S1x16 tab (fun k => (starts idx k (Shape.Idx.first h_S_)).toInt) sliceFits_S26x16_S1x16

/-- The reference's result: the bool matrix as zeros and ones times the table, plus the row under every row. -/
def result (x : Vec Ideal S1024x100000 .i1) (idx : Vec Ideal S_ .i32) (e : FVec Ideal S100000x16 .f32)
    (tab : Vec Ideal S26x16 .f32) : FVec Ideal S1024x16 .f32 :=
  addf (Host.dotGeneral (φ₁ := .f32) (φ₂ := .f32) dot_S1024x100000_S100000x16_S1024x16_1_0_0_1_n_n none
      (uitofp .f32 x) e)
    (broadcastInDim S1024x16 ![0, 1] bcast_S1x16_S1024x16_0_1 (broadcastInDim S1x16 ![1] bcast_S16_S1x16_1
      (shapeCast S16 (row idx tab) shapeCasts_S1x16_S16)))

/-- The reference ends with that in its result array and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v12)
          = result (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  hlo_run
  unfold result
  apply congrArg₂ (addf (F := Ideal) (s := S1024x16) (φ := .f32))
  · with_reducible rfl
  · apply congrArg
    apply congrArg
    refine congrArg (fun z : Vec Ideal S1x16 .f32 => shapeCast S16 z shapeCasts_S1x16_S16) ?_
    unfold row
    refine congrArg (fun f => Host.dynamicSlice S1x16 (m ((c.tc : Thread nD τ).loc main_arg3)) f sliceFits_S26x16_S1x16) ?_
    unfold starts
    funext k
    fin_cases k
    · simp only [Fin.zero_eta, Matrix.cons_val_zero]
      after_results_simp
      rfl
    · rfl
/-  unfold row starts
  congr 1
  funext k
  fin_cases k
  · simp only [Fin.zero_eta, Matrix.cons_val_zero]
    after_results_simp
    rfl
  · rfl

-/
end Cert.ReferenceIdeal.Hand

end
-- ==== Proof.Equation.lean ====
/- Hand-written, untrusted. The kernel's result and the reference's, element by element: the same bias entry and the same
   sum of products, in the other order. -/
module

public import proofs.«01_k».proof.Proof.Host
public import proofs.«01_k».proof.Proof.Reference

@[expose] public section

set_option maxRecDepth 16384

noncomputable section

namespace Cert.KernelIdeal.Hand

open Cert.KernelIdeal Cert.KernelIdeal.Gen
open Idealize.ShloMosaic Idealize.ShloMosaic.TcCoe

/-- A bit widened to a byte reads the same as a signed number. -/
theorem toInt_widened (b : BitVec 1) : ((b.zeroExtend 8).toInt : ℤ) = (b.toNat : ℤ) := by
  revert b
  decide

/-- One element of either half: the bias entry plus the table rows the bits of row `off + r` select. -/
theorem half_apply (off : ℕ) (x : Vec Ideal S1024x100000 .i1) (h : S1024x100000.Slices ![off, 0] S512x100000)
    (e : FVec Ideal S100000x16 .f32) (b : Vec Ideal S1x16 .f32) (r : Fin 512) (j : Fin 16) (q : Fin 1024)
    (hq : q.val = off + r.val) :
    half (bytes off x h) (truncf .bf16 e bitsLt_bf16_f32) b (ix2 r j)
      = ((b (ix2 0 j) : EReal)
        + ∑ k : Fin 100000, (((x (ix2 q k) : BitVec 1).toNat : ℝ) : EReal) * (e (ix2 k j) : EReal) : EReal) := by
  obtain ⟨_, hlt⟩ := q
  dsimp only at hq
  subst hq
  unfold half bytes
  pointwise
  refine congrArg (b (ix2 0 j) + ·) (Finset.sum_congr rfl fun k _ => ?_)
  rw [toInt_widened, Int.cast_natCast]

/-- One element of the result. -/
theorem result_apply (x : Vec Ideal S1024x100000 .i1) (idx : Vec Ideal S_ .i32) (e : FVec Ideal S100000x16 .f32)
    (tab : Vec Ideal S26x16 .f32) (r : Fin 1024) (j : Fin 16) :
    result x idx e tab (ix2 r j)
      = ((row idx tab (ix2 0 j) : EReal)
        + ∑ k : Fin 100000, (((x (ix2 r k) : BitVec 1).toNat : ℝ) : EReal) * (e (ix2 k j) : EReal) : EReal) := by
  unfold result
  rw [concatenate_pair_apply]
  split
  · next hr =>
    refine (congrArg _ (eq_ix2 _)).trans ?_
    refine half_apply 0 x _ e _ ⟨r.val, hr⟩ j r ?_
    exact (Nat.zero_add _).symm
  · next hr =>
    have hr' : ¬ r.val < 512 := hr
    refine (congrArg _ (eq_ix2 _)).trans ?_
    refine half_apply 512 x _ e _ ⟨r.val - 512, by omega⟩ j r ?_
    show r.val = 512 + (r.val - 512)
    omega

/-- The reference's second start word is zero as well, so it takes the kernel's row. -/
theorem row_eq (idx : Vec Ideal S_ .i32) (tab : Vec Ideal S26x16 .f32) :
    Cert.ReferenceIdeal.Hand.row idx tab = row idx tab := by
  unfold Cert.ReferenceIdeal.Hand.row row Cert.ReferenceIdeal.Hand.starts
  congr 1

/-- The reference's result array is the kernel's. -/
theorem result_eq (x : Vec Ideal S1024x100000 .i1) (idx : Vec Ideal S_ .i32) (e : FVec Ideal S100000x16 .f32)
    (tab : Vec Ideal S26x16 .f32) :
    Cert.ReferenceIdeal.Hand.result x idx e tab = result x idx e tab := by
  funext i
  obtain ⟨r, j, rfl⟩ : ∃ (r : Fin 1024) (j : Fin 16), i = ix2 r j := ⟨i 0, i 1, eq_ix2 i⟩
  rw [result_apply]
  unfold Cert.ReferenceIdeal.Hand.result
  rw [row_eq]
  generalize row idx tab = b
  pointwise
  exact add_comm _ _

end Cert.KernelIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The reference's frame: its run, and it declares no semaphore. -/
theorem frameReference : Cert.quiescent_ReferenceIdeal := fun m g _ =>
  θ_run_mono (Cert.ReferenceIdeal.Hand.run m g) fun r h =>
    ⟨fun c => (h c).2, sem_eq_zero_of_no_sems (by decide) r.2⟩

/-- Over the extended reals the kernel and the reference end with one and the same array. -/
theorem algebraic : Cert.algebraic_KernelIdeal_ReferenceIdeal := by
  intro m g m' g' _ hagree
  refine ⟨fun c => Cert.KernelIdeal.Hand.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact θ_run_mono (Cert.KernelIdeal.Hand.run m g) fun r h c =>
      ⟨(h c).1.trans (Cert.KernelIdeal.Hand.W5_v11 m g c), (h c).2⟩
  · refine θ_run_mono (Cert.ReferenceIdeal.Hand.run m' g') fun r h c => ⟨(h c).1.trans ?_, (h c).2⟩
    obtain ⟨h0, h1, h2, h3⟩ := hagree c
    rw [h0, h1, h2, h3]
    exact Cert.KernelIdeal.Hand.result_eq _ _ _ _

theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, frameReference, trivial, algebraic⟩

end Cert.Proof

end
